-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "rest" .f32 0x3F4CCCCD#32 ((4 / 5 : ℝ) : EReal)
  ∧ IdealRules.named_const.Statement Cert.KernelIdeal.κ "slope" .f32 0x3E4CCCCD#32 ((1 / 5 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x32x16 : Shape := ⟨3, ![50000, 32, 16]⟩
abbrev S32x32 : Shape := ⟨2, ![32, 32]⟩
abbrev S50000x512 : Shape := ⟨2, ![50000, 512]⟩
abbrev S16 : Shape := ⟨1, ![16]⟩
abbrev S_ : Shape := ⟨0, ![]⟩
abbrev S16x1x1 : Shape := ⟨3, ![16, 1, 1]⟩
abbrev S1x32x32 : Shape := ⟨3, ![1, 32, 32]⟩
abbrev S16x32x32 : Shape := ⟨3, ![16, 32, 32]⟩
abbrev S16x16 : Shape := ⟨2, ![16, 16]⟩
abbrev S1x16x1x16 : Shape := ⟨4, ![1, 16, 1, 16]⟩
abbrev S32x16x32 : Shape := ⟨3, ![32, 16, 32]⟩
abbrev S32x16x32x1 : Shape := ⟨4, ![32, 16, 32, 1]⟩
abbrev S32x16x32x16 : Shape := ⟨4, ![32, 16, 32, 16]⟩
abbrev S512x512 : Shape := ⟨2, ![512, 512]⟩
abbrev S16x1 : Shape := ⟨2, ![16, 1]⟩
abbrev S1x16 : Shape := ⟨2, ![1, 16]⟩
abbrev S8x8 : Shape := ⟨2, ![8, 8]⟩
abbrev S8x1x8x1 : Shape := ⟨4, ![8, 1, 8, 1]⟩
abbrev S8x16x8x16 : Shape := ⟨4, ![8, 16, 8, 16]⟩
abbrev S128x128 : Shape := ⟨2, ![128, 128]⟩
abbrev S2000x512 : Shape := ⟨2, ![2000, 512]⟩
abbrev S2000x128 : Shape := ⟨2, ![2000, 128]⟩

abbrev nBuf : Space → Nat
  | .hbm => 94
  | .vmem => 6
  | .smem => 0
  | _ => 0

abbrev bufTy : (tb : Table) → Fin (tcTables nBuf tb) → BufTy
  | .hbm, ⟨0, _⟩ => ⟨S50000x32x16, .f32⟩
  | .hbm, ⟨1, _⟩ => ⟨S32x32, .f32⟩
  | .hbm, ⟨2, _⟩ => ⟨S32x32, .f32⟩
  | .hbm, ⟨3, _⟩ => ⟨S50000x512, .f32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i1⟩
  | .hbm, ⟨11, _⟩ => ⟨S16, .i1⟩
  | .hbm, ⟨12, _⟩ => ⟨S16, .f32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S16, .f32⟩
  | .hbm, ⟨17, _⟩ => ⟨S16x1x1, .f32⟩
  | .hbm, ⟨18, _⟩ => ⟨S1x32x32, .f32⟩
  | .hbm, ⟨19, _⟩ => ⟨S16x32x32, .f32⟩
  | .hbm, ⟨20, _⟩ => ⟨S16x32x32, .f32⟩
  | .hbm, ⟨21, _⟩ => ⟨S16x32x32, .f32⟩
  | .hbm, ⟨22, _⟩ => ⟨S16x1x1, .f32⟩
  | .hbm, ⟨23, _⟩ => ⟨S1x32x32, .f32⟩
  | .hbm, ⟨24, _⟩ => ⟨S16x32x32, .f32⟩
  | .hbm, ⟨25, _⟩ => ⟨S16x32x32, .f32⟩
  | .hbm, ⟨26, _⟩ => ⟨S16x32x32, .f32⟩
  | .hbm, ⟨27, _⟩ => ⟨S16x32x32, .f32⟩
  | .hbm, ⟨28, _⟩ => ⟨S16x16, .i32⟩
  | .hbm, ⟨29, _⟩ => ⟨S16x16, .i32⟩
  | .hbm, ⟨30, _⟩ => ⟨S_, .i32⟩
  | .hbm, ⟨31, _⟩ => ⟨S16x16, .i32⟩
  | .hbm, ⟨32, _⟩ => ⟨S16x16, .i32⟩
  | .hbm, ⟨33, _⟩ => ⟨S16x16, .i1⟩
  | .hbm, ⟨34, _⟩ => ⟨S16x16, .f32⟩
  | .hbm, ⟨35, _⟩ => ⟨S1x16x1x16, .f32⟩
  | .hbm, ⟨36, _⟩ => ⟨S32x16x32, .f32⟩
  | .hbm, ⟨37, _⟩ => ⟨S32x16x32x1, .f32⟩
  | .hbm, ⟨38, _⟩ => ⟨S32x16x32x16, .f32⟩
  | .hbm, ⟨39, _⟩ => ⟨S32x16x32x16, .f32⟩
  | .hbm, ⟨40, _⟩ => ⟨S32x16x32x16, .f32⟩
  | .hbm, ⟨41, _⟩ => ⟨S512x512, .f32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S_, .i32⟩
  | .hbm, ⟨46, _⟩ => ⟨S16, .i32⟩
  | .hbm, ⟨47, _⟩ => ⟨S16, .i1⟩
  | .hbm, ⟨48, _⟩ => ⟨S16, .i1⟩
  | .hbm, ⟨49, _⟩ => ⟨S16, .f32⟩
  | .hbm, ⟨50, _⟩ => ⟨S_, .i32⟩
  | .hbm, ⟨51, _⟩ => ⟨S16, .i32⟩
  | .hbm, ⟨52, _⟩ => ⟨S16, .i1⟩
  | .hbm, ⟨53, _⟩ => ⟨S_, .i32⟩
  | .hbm, ⟨54, _⟩ => ⟨S16, .i32⟩
  | .hbm, ⟨55, _⟩ => ⟨S16, .i1⟩
  | .hbm, ⟨56, _⟩ => ⟨S16, .i1⟩
  | .hbm, ⟨57, _⟩ => ⟨S16, .f32⟩
  | .hbm, ⟨58, _⟩ => ⟨S_, .i32⟩
  | .hbm, ⟨59, _⟩ => ⟨S16, .i32⟩
  | .hbm, ⟨60, _⟩ => ⟨S16, .i1⟩
  | .hbm, ⟨61, _⟩ => ⟨S16, .f32⟩
  | .hbm, ⟨62, _⟩ => ⟨S16x1, .f32⟩
  | .hbm, ⟨63, _⟩ => ⟨S1x16, .f32⟩
  | .hbm, ⟨64, _⟩ => ⟨S16x16, .f32⟩
  | .hbm, ⟨65, _⟩ => ⟨S16x16, .f32⟩
  | .hbm, ⟨66, _⟩ => ⟨S16x16, .f32⟩
  | .hbm, ⟨67, _⟩ => ⟨S16x1, .f32⟩
  | .hbm, ⟨68, _⟩ => ⟨S1x16, .f32⟩
  | .hbm, ⟨69, _⟩ => ⟨S16x16, .f32⟩
  | .hbm, ⟨70, _⟩ => ⟨S16x16, .f32⟩
  | .hbm, ⟨71, _⟩ => ⟨S16x16, .f32⟩
  | .hbm, ⟨72, _⟩ => ⟨S16x16, .f32⟩
  | .hbm, ⟨73, _⟩ => ⟨S16x1, .f32⟩
  | .hbm, ⟨74, _⟩ => ⟨S1x16, .f32⟩
  | .hbm, ⟨75, _⟩ => ⟨S16x16, .f32⟩
  | .hbm, ⟨76, _⟩ => ⟨S16x16, .f32⟩
  | .hbm, ⟨77, _⟩ => ⟨S16x16, .f32⟩
  | .hbm, ⟨78, _⟩ => ⟨S16x16, .f32⟩
  | .hbm, ⟨79, _⟩ => ⟨S8x8, .i32⟩
  | .hbm, ⟨80, _⟩ => ⟨S8x8, .i32⟩
  | .hbm, ⟨81, _⟩ => ⟨S_, .i32⟩
  | .hbm, ⟨82, _⟩ => ⟨S8x8, .i32⟩
  | .hbm, ⟨83, _⟩ => ⟨S8x8, .i32⟩
  | .hbm, ⟨84, _⟩ => ⟨S8x8, .i1⟩
  | .hbm, ⟨85, _⟩ => ⟨S8x8, .f32⟩
  | .hbm, ⟨86, _⟩ => ⟨S8x1x8x1, .f32⟩
  | .hbm, ⟨87, _⟩ => ⟨S1x16x1x16, .f32⟩
  | .hbm, ⟨88, _⟩ => ⟨S8x16x8x16, .f32⟩
  | .hbm, ⟨89, _⟩ => ⟨S8x16x8x16, .f32⟩
  | .hbm, ⟨90, _⟩ => ⟨S8x16x8x16, .f32⟩
  | .hbm, ⟨91, _⟩ => ⟨S128x128, .f32⟩
  | .hbm, ⟨92, _⟩ => ⟨S50000x512, .f32⟩
  | .hbm, ⟨93, _⟩ => ⟨S50000x32x16, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S128x128, .f32⟩
  | .local _ .vmem, ⟨4, _⟩ => ⟨S2000x512, .f32⟩
  | .local _ .vmem, ⟨5, _⟩ => ⟨S2000x512, .f32⟩
  | _, _ => ⟨S50000x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_c_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_c_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22 : Ref sig .tc := ⟨.hbm, 28, rfl⟩
abbrev main_call0_v23 : Ref sig .tc := ⟨.hbm, 29, rfl⟩
abbrev main_call0_c_2 : Ref sig .tc := ⟨.hbm, 30, rfl⟩
abbrev main_call0_v24 : Ref sig .tc := ⟨.hbm, 31, rfl⟩
abbrev main_call0_v25 : Ref sig .tc := ⟨.hbm, 32, rfl⟩
abbrev main_call0_v26 : Ref sig .tc := ⟨.hbm, 33, rfl⟩
abbrev main_call0_v27 : Ref sig .tc := ⟨.hbm, 34, rfl⟩
abbrev main_call0_v28 : Ref sig .tc := ⟨.hbm, 35, rfl⟩
abbrev main_call0_v29 : Ref sig .tc := ⟨.hbm, 36, rfl⟩
abbrev main_call0_v30 : Ref sig .tc := ⟨.hbm, 37, rfl⟩
abbrev main_call0_v31 : Ref sig .tc := ⟨.hbm, 38, rfl⟩
abbrev main_call0_v32 : Ref sig .tc := ⟨.hbm, 39, rfl⟩
abbrev main_call0_v33 : Ref sig .tc := ⟨.hbm, 40, rfl⟩
abbrev main_call0_v34 : Ref sig .tc := ⟨.hbm, 41, rfl⟩
abbrev main_call0_c_3 : Ref sig .tc := ⟨.hbm, 42, rfl⟩
abbrev main_call0_v35 : Ref sig .tc := ⟨.hbm, 43, rfl⟩
abbrev main_call0_v36 : Ref sig .tc := ⟨.hbm, 44, rfl⟩
abbrev main_call0_c_4 : Ref sig .tc := ⟨.hbm, 45, rfl⟩
abbrev main_call0_v37 : Ref sig .tc := ⟨.hbm, 46, rfl⟩
abbrev main_call0_v38 : Ref sig .tc := ⟨.hbm, 47, rfl⟩
abbrev main_call0_v39 : Ref sig .tc := ⟨.hbm, 48, rfl⟩
abbrev main_call0_v40 : Ref sig .tc := ⟨.hbm, 49, rfl⟩
abbrev main_call0_c_5 : Ref sig .tc := ⟨.hbm, 50, rfl⟩
abbrev main_call0_v41 : Ref sig .tc := ⟨.hbm, 51, rfl⟩
abbrev main_call0_v42 : Ref sig .tc := ⟨.hbm, 52, rfl⟩
abbrev main_call0_c_6 : Ref sig .tc := ⟨.hbm, 53, rfl⟩
abbrev main_call0_v43 : Ref sig .tc := ⟨.hbm, 54, rfl⟩
abbrev main_call0_v44 : Ref sig .tc := ⟨.hbm, 55, rfl⟩
abbrev main_call0_v45 : Ref sig .tc := ⟨.hbm, 56, rfl⟩
abbrev main_call0_v46 : Ref sig .tc := ⟨.hbm, 57, rfl⟩
abbrev main_call0_c_7 : Ref sig .tc := ⟨.hbm, 58, rfl⟩
abbrev main_call0_v47 : Ref sig .tc := ⟨.hbm, 59, rfl⟩
abbrev main_call0_v48 : Ref sig .tc := ⟨.hbm, 60, rfl⟩
abbrev main_call0_v49 : Ref sig .tc := ⟨.hbm, 61, rfl⟩
abbrev main_call0_v50 : Ref sig .tc := ⟨.hbm, 62, rfl⟩
abbrev main_call0_v51 : Ref sig .tc := ⟨.hbm, 63, rfl⟩
abbrev main_call0_v52 : Ref sig .tc := ⟨.hbm, 64, rfl⟩
abbrev main_call0_v53 : Ref sig .tc := ⟨.hbm, 65, rfl⟩
abbrev main_call0_v54 : Ref sig .tc := ⟨.hbm, 66, rfl⟩
abbrev main_call0_v55 : Ref sig .tc := ⟨.hbm, 67, rfl⟩
abbrev main_call0_v56 : Ref sig .tc := ⟨.hbm, 68, rfl⟩
abbrev main_call0_v57 : Ref sig .tc := ⟨.hbm, 69, rfl⟩
abbrev main_call0_v58 : Ref sig .tc := ⟨.hbm, 70, rfl⟩
abbrev main_call0_v59 : Ref sig .tc := ⟨.hbm, 71, rfl⟩
abbrev main_call0_v60 : Ref sig .tc := ⟨.hbm, 72, rfl⟩
abbrev main_call0_v61 : Ref sig .tc := ⟨.hbm, 73, rfl⟩
abbrev main_call0_v62 : Ref sig .tc := ⟨.hbm, 74, rfl⟩
abbrev main_call0_v63 : Ref sig .tc := ⟨.hbm, 75, rfl⟩
abbrev main_call0_v64 : Ref sig .tc := ⟨.hbm, 76, rfl⟩
abbrev main_call0_v65 : Ref sig .tc := ⟨.hbm, 77, rfl⟩
abbrev main_call0_v66 : Ref sig .tc := ⟨.hbm, 78, rfl⟩
abbrev main_call0_v67 : Ref sig .tc := ⟨.hbm, 79, rfl⟩
abbrev main_call0_v68 : Ref sig .tc := ⟨.hbm, 80, rfl⟩
abbrev main_call0_c_8 : Ref sig .tc := ⟨.hbm, 81, rfl⟩
abbrev main_call0_v69 : Ref sig .tc := ⟨.hbm, 82, rfl⟩
abbrev main_call0_v70 : Ref sig .tc := ⟨.hbm, 83, rfl⟩
abbrev main_call0_v71 : Ref sig .tc := ⟨.hbm, 84, rfl⟩
abbrev main_call0_v72 : Ref sig .tc := ⟨.hbm, 85, rfl⟩
abbrev main_call0_call0_v0 : Ref sig .tc := ⟨.hbm, 86, rfl⟩
abbrev main_call0_call0_v1 : Ref sig .tc := ⟨.hbm, 87, rfl⟩
abbrev main_call0_call0_v2 : Ref sig .tc := ⟨.hbm, 88, rfl⟩
abbrev main_call0_call0_v3 : Ref sig .tc := ⟨.hbm, 89, rfl⟩
abbrev main_call0_call0_v4 : Ref sig .tc := ⟨.hbm, 90, rfl⟩
abbrev main_call0_v73 : Ref sig .tc := ⟨.hbm, 91, rfl⟩
abbrev main_call0_v74 : Ref sig .tc := ⟨.hbm, 92, rfl⟩
abbrev main_v0 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "rest" => some ((4 / 5 : ℝ) : EReal)
  | "slope" => some ((1 / 5 : ℝ) : EReal)
  | _ => none
-- ==== ReferenceIdeal.lean ====
abbrev S50000x32x16 : Shape := ⟨3, ![50000, 32, 16]⟩
abbrev S32x32 : Shape := ⟨2, ![32, 32]⟩
abbrev S_ : Shape := ⟨0, ![]⟩
abbrev S50000x32x1 : Shape := ⟨3, ![50000, 32, 1]⟩
abbrev S50000x32x3 : Shape := ⟨3, ![50000, 32, 3]⟩
abbrev S50000x3x32 : Shape := ⟨3, ![50000, 3, 32]⟩
abbrev S150000x32 : Shape := ⟨2, ![150000, 32]⟩
abbrev S50000x32 : Shape := ⟨2, ![50000, 32]⟩
abbrev S50000x32x9 : Shape := ⟨3, ![50000, 32, 9]⟩
abbrev S50000x9x32 : Shape := ⟨3, ![50000, 9, 32]⟩
abbrev S450000x32 : Shape := ⟨2, ![450000, 32]⟩

abbrev nBuf : Space → Nat
  | .hbm => 147
  | .vmem => 0
  | .smem => 0
  | _ => 0

abbrev hbmTy0_0 (i : Nat) : BufTy := match i % 128 with
  | 0 => ⟨S50000x32x16, .f32⟩
  | 1 => ⟨S32x32, .f32⟩
  | 2 => ⟨S32x32, .f32⟩
  | 3 => ⟨S_, .f32⟩
  | 4 => ⟨S_, .f32⟩
  | 5 => ⟨S_, .f32⟩
  | 6 => ⟨S50000x32x1, .f32⟩
  | 7 => ⟨S_, .f32⟩
  | 8 => ⟨S50000x32x1, .f32⟩
  | 9 => ⟨S50000x32x1, .i1⟩
  | 10 => ⟨S_, .f32⟩
  | 11 => ⟨S50000x32x1, .f32⟩
  | 12 => ⟨S50000x32x1, .f32⟩
  | 13 => ⟨S50000x32x1, .f32⟩
  | 14 => ⟨S32x32, .f32⟩
  | 15 => ⟨S32x32, .f32⟩
  | 16 => ⟨S32x32, .f32⟩
  | 17 => ⟨S50000x32x3, .f32⟩
  | 18 => ⟨S50000x3x32, .f32⟩
  | 19 => ⟨S150000x32, .f32⟩
  | 20 => ⟨S150000x32, .f32⟩
  | 21 => ⟨S50000x3x32, .f32⟩
  | 22 => ⟨S50000x32x3, .f32⟩
  | 23 => ⟨S50000x32x3, .f32⟩
  | 24 => ⟨S_, .f32⟩
  | 25 => ⟨S50000x32, .f32⟩
  | 26 => ⟨S50000x32x1, .f32⟩
  | 27 => ⟨S_, .f32⟩
  | 28 => ⟨S50000x32x1, .f32⟩
  | 29 => ⟨S50000x32x1, .i1⟩
  | 30 => ⟨S50000x32x1, .f32⟩
  | 31 => ⟨S50000x32x3, .f32⟩
  | 32 => ⟨S_, .f32⟩
  | 33 => ⟨S50000x32, .f32⟩
  | 34 => ⟨S50000x32x1, .f32⟩
  | 35 => ⟨S_, .f32⟩
  | 36 => ⟨S50000x32x1, .f32⟩
  | 37 => ⟨S50000x32x1, .f32⟩
  | 38 => ⟨S50000x32x1, .f32⟩
  | 39 => ⟨S50000x32x3, .f32⟩
  | 40 => ⟨S50000x32x3, .f32⟩
  | 41 => ⟨S_, .f32⟩
  | 42 => ⟨S50000x32x1, .f32⟩
  | 43 => ⟨S50000x32x1, .f32⟩
  | 44 => ⟨S50000x32x1, .f32⟩
  | 45 => ⟨S50000x32x3, .f32⟩
  | 46 => ⟨S50000x32x3, .f32⟩
  | 47 => ⟨S50000x32x3, .f32⟩
  | 48 => ⟨S50000x32x3, .f32⟩
  | 49 => ⟨S50000x32x3, .f32⟩
  | 50 => ⟨S50000x32x3, .f32⟩
  | 51 => ⟨S_, .f32⟩
  | 52 => ⟨S50000x32x3, .f32⟩
  | 53 => ⟨S50000x32x3, .f32⟩
  | 54 => ⟨S_, .f32⟩
  | 55 => ⟨S_, .f32⟩
  | 56 => ⟨S_, .f32⟩
  | 57 => ⟨S50000x32x3, .f32⟩
  | 58 => ⟨S50000x32x3, .f32⟩
  | 59 => ⟨S50000x32x3, .f32⟩
  | 60 => ⟨S50000x32x3, .f32⟩
  | 61 => ⟨S50000x3x32, .f32⟩
  | 62 => ⟨S150000x32, .f32⟩
  | 63 => ⟨S150000x32, .f32⟩
  | 64 => ⟨S50000x3x32, .f32⟩
  | 65 => ⟨S50000x32x3, .f32⟩
  | 66 => ⟨S50000x32x3, .f32⟩
  | 67 => ⟨S_, .f32⟩
  | 68 => ⟨S50000x32, .f32⟩
  | 69 => ⟨S50000x32x1, .f32⟩
  | 70 => ⟨S_, .f32⟩
  | 71 => ⟨S50000x32x1, .f32⟩
  | 72 => ⟨S50000x32x1, .i1⟩
  | 73 => ⟨S50000x32x1, .f32⟩
  | 74 => ⟨S50000x32x3, .f32⟩
  | 75 => ⟨S_, .f32⟩
  | 76 => ⟨S50000x32, .f32⟩
  | 77 => ⟨S50000x32x1, .f32⟩
  | 78 => ⟨S_, .f32⟩
  | 79 => ⟨S50000x32x1, .f32⟩
  | 80 => ⟨S50000x32x1, .f32⟩
  | 81 => ⟨S50000x32x1, .f32⟩
  | 82 => ⟨S50000x32x3, .f32⟩
  | 83 => ⟨S50000x32x3, .f32⟩
  | 84 => ⟨S_, .f32⟩
  | 85 => ⟨S50000x32x1, .f32⟩
  | 86 => ⟨S50000x32x1, .f32⟩
  | 87 => ⟨S50000x32x1, .f32⟩
  | 88 => ⟨S50000x32x3, .f32⟩
  | 89 => ⟨S50000x32x3, .f32⟩
  | 90 => ⟨S50000x32x3, .f32⟩
  | 91 => ⟨S50000x32x3, .f32⟩
  | 92 => ⟨S50000x32x3, .f32⟩
  | 93 => ⟨S50000x32x3, .f32⟩
  | 94 => ⟨S_, .f32⟩
  | 95 => ⟨S50000x32x3, .f32⟩
  | 96 => ⟨S50000x32x3, .f32⟩
  | 97 => ⟨S_, .f32⟩
  | 98 => ⟨S_, .f32⟩
  | 99 => ⟨S_, .f32⟩
  | 100 => ⟨S50000x32x3, .f32⟩
  | 101 => ⟨S50000x32x3, .f32⟩
  | 102 => ⟨S50000x32x3, .f32⟩
  | 103 => ⟨S50000x32x9, .f32⟩
  | 104 => ⟨S50000x9x32, .f32⟩
  | 105 => ⟨S450000x32, .f32⟩
  | 106 => ⟨S450000x32, .f32⟩
  | 107 => ⟨S50000x9x32, .f32⟩
  | 108 => ⟨S50000x32x9, .f32⟩
  | 109 => ⟨S50000x32x9, .f32⟩
  | 110 => ⟨S_, .f32⟩
  | 111 => ⟨S50000x32, .f32⟩
  | 112 => ⟨S50000x32x1, .f32⟩
  | 113 => ⟨S_, .f32⟩
  | 114 => ⟨S50000x32x1, .f32⟩
  | 115 => ⟨S50000x32x1, .i1⟩
  | 116 => ⟨S50000x32x1, .f32⟩
  | 117 => ⟨S50000x32x9, .f32⟩
  | 118 => ⟨S_, .f32⟩
  | 119 => ⟨S50000x32, .f32⟩
  | 120 => ⟨S50000x32x1, .f32⟩
  | 121 => ⟨S_, .f32⟩
  | 122 => ⟨S50000x32x1, .f32⟩
  | 123 => ⟨S50000x32x1, .f32⟩
  | 124 => ⟨S50000x32x1, .f32⟩
  | 125 => ⟨S50000x32x9, .f32⟩
  | 126 => ⟨S50000x32x9, .f32⟩
  | 127 => ⟨S_, .f32⟩
  | _ => ⟨S50000x32x16, .f32⟩

abbrev hbmTy0_1 (i : Nat) : BufTy := match i % 128 with
  | 0 => ⟨S50000x32x1, .f32⟩
  | 1 => ⟨S50000x32x1, .f32⟩
  | 2 => ⟨S50000x32x1, .f32⟩
  | 3 => ⟨S50000x32x9, .f32⟩
  | 4 => ⟨S50000x32x9, .f32⟩
  | 5 => ⟨S50000x32x9, .f32⟩
  | 6 => ⟨S50000x32x9, .f32⟩
  | 7 => ⟨S50000x32x9, .f32⟩
  | 8 => ⟨S50000x32x9, .f32⟩
  | 9 => ⟨S_, .f32⟩
  | 10 => ⟨S50000x32x9, .f32⟩
  | 11 => ⟨S50000x32x9, .f32⟩
  | 12 => ⟨S_, .f32⟩
  | 13 => ⟨S_, .f32⟩
  | 14 => ⟨S_, .f32⟩
  | 15 => ⟨S50000x32x9, .f32⟩
  | 16 => ⟨S50000x32x9, .f32⟩
  | 17 => ⟨S50000x32x9, .f32⟩
  | 18 => ⟨S50000x32x16, .f32⟩
  | _ => ⟨S50000x32x16, .f32⟩

abbrev hbmTy (i : Nat) : BufTy := match i / 128 with
  | 0 => hbmTy0_0 i
  | 1 => hbmTy0_1 i
  | _ => ⟨S50000x32x16, .f32⟩

abbrev bufTy : (tb : Table) → Fin (tcTables nBuf tb) → BufTy
  | .hbm, ⟨i, _⟩ => hbmTy i
  | _, _ => ⟨S50000x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_13 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_14 : Ref sig .tc := ⟨.hbm, 110, rfl⟩
abbrev main_v92 : Ref sig .tc := ⟨.hbm, 111, rfl⟩
abbrev main_v93 : Ref sig .tc := ⟨.hbm, 112, rfl⟩
abbrev main_cst_15 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_16 : Ref sig .tc := ⟨.hbm, 118, rfl⟩
abbrev main_v98 : Ref sig .tc := ⟨.hbm, 119, rfl⟩
abbrev main_v99 : Ref sig .tc := ⟨.hbm, 120, rfl⟩
abbrev main_cst_17 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_18 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_19 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩

abbrev nD : Nat := 1
abbrev τ : Topo := Topo.v7x

variable {F : FTy → Type} [FloatOps F]
-- ==== Proof.Scalar.lean ====
/- The arithmetic of one element: what the kernel writes and what the reference writes, as functions of four
   extended reals (the element, its direction, and the two sums over its segment), and that they are equal. -/
module

public import Idealize.ShloMosaic.PureOps.Ideal
public import Idealize.ShloMosaic.PureOps.Ideal.Laws
public import Idealize.ShloMosaic.Lib.IdealHost
public import Mathlib.Data.EReal.Inv

@[expose] public section

noncomputable section

namespace Cert.Scalar

open Idealize.ShloMosaic

/-- The floor under the squared length, as the word both programs print. -/
abbrev floorSq : EReal := Ideal.ofBits .f32 0x24E69595#32

/-- The word of the floor encodes a positive number. -/
theorem floorSq_pos : 0 < floorSq := by
  have h : floorSq = ((15111573 * 2⁻¹ ^ 77 : ℝ) : EReal) := by
    simp [floorSq, Ideal.ofBits, Ideal.ieee, -EReal.coe_mul]
    try norm_num
  rw [h]
  exact EReal.coe_pos.mpr (by positivity)

/-- The word of one encodes one. -/
theorem one_bits : Ideal.ofBits .f32 0x3F800000#32 = ((1 : ℝ) : EReal) := by
  simp [Ideal.ofBits, Ideal.ieee, -EReal.coe_mul]
  try norm_num

/-- The word of five encodes five. -/
theorem five_bits : Ideal.ofBits .f32 0x40A00000#32 = ((5 : ℝ) : EReal) := by
  simp [Ideal.ofBits, Ideal.ieee, -EReal.coe_mul]
  try norm_num

/-- The reference's slope, one divided by five. -/
theorem slope_eq : Ideal.div (Ideal.ofBits .f32 0x3F800000#32) (Ideal.ofBits .f32 0x40A00000#32)
    = ((1 / 5 : ℝ) : EReal) := by
  rw [one_bits, five_bits, Ideal.div_coe (by norm_num), ← EReal.coe_mul, one_mul]

/-- One less the slope. -/
theorem rest_eq : Ideal.ofBits .f32 0x3F800000#32 - ((1 / 5 : ℝ) : EReal) = ((4 / 5 : ℝ) : EReal) := by
  rw [one_bits, ← EReal.coe_sub]
  norm_num

/-- The leaky step of the zeroth component. -/
def leaky (x : EReal) : EReal := if 0 ≤ x then x else ((1 / 5 : ℝ) : EReal) * x

/-- What the kernel writes: the element less four fifths of its projection where the inner product is negative. -/
def gate (x d dot sq : EReal) : EReal :=
  x - (if dot < 0 then ((4 / 5 : ℝ) : EReal) else 0) * d * (dot * Ideal.rsqrt (max sq floorSq))

/-- What the reference writes, with the mask as a number. -/
def mix (x d dot sq : EReal) : EReal :=
  ((1 / 5 : ℝ) : EReal) * x
    + ((4 / 5 : ℝ) : EReal)
        * ((if 0 ≤ dot then 1 else 0) * x
            + (1 - if 0 ≤ dot then 1 else 0) * (x - d * Ideal.div dot (Ideal.sqrt (max sq floorSq))))

/-- Dividing by a square root is multiplying by the reciprocal root, for a positive argument (infinity included). -/
theorem div_sqrt {M : EReal} (hM : 0 < M) (a : EReal) : Ideal.div a (Ideal.sqrt M) = a * Ideal.rsqrt M := by
  induction M with
  | bot => exact absurd hM (by simp)
  | top =>
    have e : Ideal.sqrt ⊤ = ⊤ := rfl
    have e' : Ideal.rsqrt ⊤ = 0 := rfl
    rw [e, e', Ideal.div, if_neg EReal.top_ne_zero, EReal.inv_top]
  | coe r =>
    have hr : 0 < r := EReal.coe_pos.mp hM
    have hs : Real.sqrt r ≠ 0 := (Real.sqrt_pos.mpr hr).ne'
    have e : Ideal.sqrt (r : EReal) = ((Real.sqrt r : ℝ) : EReal) :=
      (show Ideal.sqrt (r : EReal) = if r < 0 then ⊥ else ((Real.sqrt r : ℝ) : EReal) from rfl).trans (if_neg hr.not_gt)
    have e' : Ideal.rsqrt (r : EReal) = (((Real.sqrt r)⁻¹ : ℝ) : EReal) :=
      (show Ideal.rsqrt (r : EReal) = if r < 0 then ⊥ else if r = 0 then ⊤ else (((Real.sqrt r)⁻¹ : ℝ) : EReal) from rfl).trans
        ((if_neg hr.not_gt).trans (if_neg hr.ne'))
    rw [e, e', Ideal.div_coe hs, one_div]

/-- A fifth and four fifths of an element make the element. -/
theorem parts (x : EReal) : ((1 / 5 : ℝ) : EReal) * x + ((4 / 5 : ℝ) : EReal) * x = x := by
  rw [← EReal.right_distrib_of_nonneg (EReal.coe_nonneg.mpr (by norm_num)) (EReal.coe_nonneg.mpr (by norm_num)),
    ← EReal.coe_add, show (1 / 5 + 4 / 5 : ℝ) = 1 by norm_num, EReal.coe_one, one_mul]

/-- The two formulas agree at every extended real. -/
theorem mix_eq_gate (x d dot sq : EReal) : mix x d dot sq = gate x d dot sq := by
  have hM : 0 < max sq floorSq := lt_max_of_lt_right floorSq_pos
  unfold mix gate
  rw [div_sqrt hM]
  generalize Ideal.rsqrt (max sq floorSq) = g
  by_cases h : 0 ≤ dot
  · have e : (1 : EReal) - 1 = 0 := by rw [← EReal.coe_one, ← EReal.coe_sub, sub_self, EReal.coe_zero]
    rw [if_pos h, if_neg (not_lt.mpr h), e, zero_mul, add_zero, one_mul, zero_mul, zero_mul, sub_zero, parts]
  · rw [if_neg h, if_pos (not_le.mp h), zero_mul, zero_add, sub_zero, one_mul, sub_eq_add_neg x,
      EReal.left_distrib_of_nonneg_of_ne_top (EReal.coe_nonneg.mpr (by norm_num)) (EReal.coe_ne_top _),
      ← add_assoc, parts, mul_neg, ← mul_assoc, sub_eq_add_neg]

end Cert.Scalar
-- ==== Proof.Layer.lean ====
/- The layer at one point, as mathematics over coordinates, and the same layer over the flattened 512 lanes:
   the two are equal when the lanes hold the point and the two matrices hold the weights and the segments. -/
module

public import proofs.«01_k».proof.Proof.Scalar
public import Mathlib.Algebra.BigOperators.Fin
public import Mathlib.Logic.Equiv.Fin.Basic

@[expose] public section

noncomputable section

namespace Cert.Layer

open Idealize.ShloMosaic Cert.Scalar

/-- The segment of a component: the scalar, the two triples, the nine. -/
def seg (k : ℕ) : ℕ := if k = 0 then 0 else if k ≤ 3 then 1 else if k ≤ 6 then 2 else 3

/-- The weight by which component `k` of channel `c` enters the direction of channel `o`. -/
def weight (A B : Fin 32 → Fin 32 → EReal) (k : Fin 16) (o c : Fin 32) : EReal :=
  if k.val = 0 then 0 else if k.val ≤ 6 then A o c else B o c

/-- The direction: the weighted sum over the channels. -/
def dir (x : Fin 32 → Fin 16 → EReal) (A B : Fin 32 → Fin 32 → EReal) (o : Fin 32) (k : Fin 16) : EReal :=
  ∑ c : Fin 32, x c k * weight A B k o c

/-- A sum over the segment of component `k`. -/
def segSum (f : Fin 16 → EReal) (k : Fin 16) : EReal := ∑ s : Fin 16, if seg s = seg k then f s else 0

/-- The layer's value at channel `o`, component `k` of a point. -/
def value (x : Fin 32 → Fin 16 → EReal) (A B : Fin 32 → Fin 32 → EReal) (o : Fin 32) (k : Fin 16) : EReal :=
  if k.val = 0 then leaky (x o k)
  else gate (x o k) (dir x A B o k) (segSum (fun s => dir x A B o s * x o s) k)
    (segSum (fun s => dir x A B o s * dir x A B o s) k)

/-- The channel of a lane. -/
abbrev chan (l : Fin 512) : Fin 32 := ⟨l.val / 16, by omega⟩
/-- The component of a lane. -/
abbrev comp (l : Fin 512) : Fin 16 := ⟨l.val % 16, by omega⟩

/-- The direction over the lanes: a row of the product with the large matrix. -/
def laneDir (x : Fin 512 → EReal) (b : Fin 512 → Fin 512 → EReal) (l : Fin 512) : EReal :=
  ∑ i : Fin 512, x i * b i l

/-- A sum over the 128 lanes around lane `l`, weighted by the small matrix. -/
def laneSum (f : Fin 512 → EReal) (a : Fin 128 → Fin 128 → EReal) (l : Fin 512) : EReal :=
  ∑ q : Fin 128, f ⟨l.val / 128 * 128 + q.val, by omega⟩ * a q ⟨l.val % 128, by omega⟩

/-- The layer over the lanes, by the two matrices. -/
def laneValue (x : Fin 512 → EReal) (b : Fin 512 → Fin 512 → EReal) (a : Fin 128 → Fin 128 → EReal) (l : Fin 512) : EReal :=
  if l.val % 16 = 0 then leaky (x l)
  else gate (x l) (laneDir x b l) (laneSum (fun i => laneDir x b i * x i) a l)
    (laneSum (fun i => laneDir x b i * laneDir x b i) a l)

/-- A sum over `n` lanes of sixteen components each is a double sum. -/
theorem sum_lanes (n : ℕ) (f : Fin (n * 16) → EReal) :
    ∑ i, f i = ∑ c : Fin n, ∑ s : Fin 16, f ⟨c.val * 16 + s.val, by omega⟩ := by
  rw [← finProdFinEquiv.sum_comp, Fintype.sum_prod_type]
  refine Finset.sum_congr rfl fun c _ => Finset.sum_congr rfl fun s _ => congrArg f (Fin.ext ?_)
  simp only [finProdFinEquiv_apply_val]
  omega

variable {x : Fin 512 → EReal} {X : Fin 32 → Fin 16 → EReal} {A B : Fin 32 → Fin 32 → EReal}
  {b : Fin 512 → Fin 512 → EReal} {a : Fin 128 → Fin 128 → EReal}

/-- The large matrix keeps the component apart, so its product is the direction. -/
theorem laneDir_eq (hx : ∀ l, x l = X (chan l) (comp l))
    (hb : ∀ i l, b i l = if i.val % 16 = l.val % 16 then weight A B (comp l) (chan l) (chan i) else 0) (l : Fin 512) :
    laneDir x b l = dir X A B (chan l) (comp l) := by
  refine (sum_lanes 32 _).trans (Finset.sum_congr rfl fun c _ => ?_)
  rw [Finset.sum_eq_single (comp l)]
  · have e : chan (⟨c.val * 16 + (comp l).val, by omega⟩ : Fin 512) = c := Fin.ext (by simp only; omega)
    have e' : comp (⟨c.val * 16 + (comp l).val, by omega⟩ : Fin 512) = comp l := Fin.ext (by simp only; omega)
    rw [hx, hb, e, e', if_pos (by simp only; omega)]
  · intro s _ hs
    rw [hb, if_neg, mul_zero]
    intro h
    exact hs (Fin.ext (by simp only at h ⊢; omega))
  · exact fun h => absurd (Finset.mem_univ _) h

/-- The small matrix keeps the channel and the segment apart, so its weighted sum is the segment's sum. -/
theorem laneSum_eq {f : Fin 512 → EReal} {F : Fin 32 → Fin 16 → EReal} (hf : ∀ l, f l = F (chan l) (comp l))
    (ha : ∀ i l, a i l = if i.val / 16 = l.val / 16 ∧ seg (i.val % 16) = seg (l.val % 16) ∧ seg (l.val % 16) ≠ 0 then 1 else 0)
    (l : Fin 512) (hl : l.val % 16 ≠ 0) : laneSum f a l = segSum (F (chan l)) (comp l) := by
  have h0 : seg (l.val % 16) ≠ 0 := by unfold seg; split_ifs <;> omega
  refine (sum_lanes 8 _).trans ?_
  rw [Finset.sum_eq_single (⟨l.val % 128 / 16, by omega⟩ : Fin 8)]
  · refine Finset.sum_congr rfl fun s _ => ?_
    rw [hf, ha]
    have e : chan (⟨l.val / 128 * 128 + (l.val % 128 / 16 * 16 + s.val), by omega⟩ : Fin 512) = chan l :=
      Fin.ext (by simp only; omega)
    have e' : comp (⟨l.val / 128 * 128 + (l.val % 128 / 16 * 16 + s.val), by omega⟩ : Fin 512) = s :=
      Fin.ext (by simp only; omega)
    have e₁ : (l.val % 128 / 16 * 16 + s.val) / 16 = l.val % 128 / 16 := by omega
    have e₂ : (l.val % 128 / 16 * 16 + s.val) % 16 = s.val := by omega
    have e₃ : l.val % 128 % 16 = l.val % 16 := by omega
    simp only [e, e', e₁, e₂, e₃, true_and]
    by_cases h : seg s.val = seg (l.val % 16)
    · rw [if_pos ⟨h, h0⟩, if_pos h, mul_one]
    · rw [if_neg fun hh => h hh.1, if_neg h, mul_zero]
  · intro c _ hc
    refine Finset.sum_eq_zero fun s _ => ?_
    rw [ha, if_neg, mul_zero]
    rintro ⟨h, -⟩
    exact hc (Fin.ext (by simp only at h ⊢; omega))
  · exact fun h => absurd (Finset.mem_univ _) h

/-- The layer over the lanes is the layer. -/
theorem laneValue_eq (hx : ∀ l, x l = X (chan l) (comp l))
    (hb : ∀ i l, b i l = if i.val % 16 = l.val % 16 then weight A B (comp l) (chan l) (chan i) else 0)
    (ha : ∀ i l, a i l = if i.val / 16 = l.val / 16 ∧ seg (i.val % 16) = seg (l.val % 16) ∧ seg (l.val % 16) ≠ 0 then 1 else 0)
    (l : Fin 512) : laneValue x b a l = value X A B (chan l) (comp l) := by
  unfold laneValue value
  by_cases h : l.val % 16 = 0
  · rw [if_pos h, if_pos h, hx]
  · rw [if_neg h, if_neg h, hx, laneDir_eq hx hb,
      laneSum_eq (F := fun o s => dir X A B o s * X o s) (fun i => by rw [laneDir_eq hx hb, hx]) ha l h,
      laneSum_eq (F := fun o s => dir X A B o s * dir X A B o s) (fun i => by rw [laneDir_eq hx hb]) ha l h]

end Cert.Layer
-- ==== Proof.Block.lean ====
/- What the kernel's body leaves in a block: each element is the layer over the lanes of its row. -/
module

public import proofs.«01_k».proof.Proof.Gen.KernelIdeal.Frame
public import proofs.«01_k».proof.Proof.Layer
public import Idealize.ShloMosaic.Lib.Pipeline.ValueKit

@[expose] public section

set_option maxRecDepth 16384

noncomputable section

namespace Cert.KernelIdeal.Block

open Idealize.ShloMosaic Cert.KernelIdeal Cert.KernelIdeal.Gen Cert.Layer Cert.Scalar

/-- The kernel's test on a lane: its remainder by sixteen, with the sign repaired, is zero. -/
def laneBit (n : ℕ) : BitVec 1 :=
  let d : BitVec 32 := Scalar.select (Scalar.cmpi .eq 16#32 0#32) 1#32 16#32
  let r : BitVec 32 := IntOp.remsi .vector (BitVec.ofNat 32 n) d
  IntOp.cmpi .eq
    (Scalar.select (IntOp.andi (IntOp.xori (IntOp.cmpi .slt r 0#32) (Scalar.cmpi .slt d 0#32)) (IntOp.cmpi .ne r 0#32))
      (IntOp.addi r d) r) 0#32

/-- The test's bit on the 128 lanes of a store. -/
theorem laneBit_eq : ∀ q : Fin 128, laneBit q.val = BitVec.ofBool (decide (q.val % 16 = 0)) := by decide +kernel

/-- A select by the test is a choice by the lane's component. -/
theorem select_lane (q : Fin 128) (u v : EReal) : Scalar.select (laneBit q.val) u v = if q.val % 16 = 0 then u else v := by
  rw [laneBit_eq]
  by_cases h : q.val % 16 = 0
  · rw [if_pos h, decide_eq_true h]; rfl
  · rw [if_neg h, decide_eq_false h]; rfl

/-- The kernel's named slope is one fifth. -/
theorem slope_named : Named.named (F := Ideal) κ "slope" (φ := .f32) 0x3E4CCCCD#32 = ((1 / 5 : ℝ) : EReal) :=
  IdealRules.named_const.ideal_named_scalar _ _ _ _ rfl

/-- The kernel's named rest is four fifths. -/
theorem rest_named : Named.named (F := Ideal) κ "rest" (φ := .f32) 0x3F4CCCCD#32 = ((4 / 5 : ℝ) : EReal) :=
  IdealRules.named_const.ideal_named_scalar _ _ _ _ rfl

/-- Lane `q` of the store at offset `off`. -/
abbrev laneOf (off : ℕ) (ho : off + 128 ≤ 512) (q : Fin 128) : Fin 512 := ⟨off + q.val, by omega⟩

/-- The layer over the lanes at lane `off + q` of the store at offset `off`. -/
theorem laneValue_at (x : Fin 512 → EReal) (b : Fin 512 → Fin 512 → EReal) (a : Fin 128 → Fin 128 → EReal) (off : ℕ)
    (hd : off % 128 = 0) (ho : off + 128 ≤ 512) (q : Fin 128) :
    laneValue x b a ⟨off + q.val, by omega⟩
      = if q.val % 16 = 0 then leaky (x ⟨off + q.val, by omega⟩)
        else gate (x ⟨off + q.val, by omega⟩) (∑ i, x i * b i ⟨off + q.val, by omega⟩)
          (∑ s : Fin 128, (∑ i, x i * b i ⟨off + s.val, by omega⟩) * x ⟨off + s.val, by omega⟩ * a s q)
          (∑ s : Fin 128, ((∑ i, x i * b i ⟨off + s.val, by omega⟩) * ∑ i, x i * b i ⟨off + s.val, by omega⟩) * a s q) := by
  have e : (off + q.val) % 16 = q.val % 16 := by omega
  have e₁ : (off + q.val) / 128 * 128 = off := by omega
  have e₂ : (off + q.val) % 128 = q.val := by omega
  unfold laneValue laneSum laneDir
  simp only [e, e₁, e₂]

/-- The body's output block at an element. -/
theorem out_apply (x0 : Vec Ideal S2000x512 .f32) (x1 : Vec Ideal S512x512 .f32) (x2 : Vec Ideal S128x128 .f32)
    (y : S2000x512.Idx) :
    out0_3 x0 x1 x2 y
      = laneValue (fun l => x0 (ix2 (y 0) l)) (fun i l => x1 (ix2 i l)) (fun i l => x2 (ix2 i l)) (y 1) := by
  unfold_out out0_3
  canon_tiles x h
  all_goals unfold_payloads
  all_goals pointwise
  all_goals rw [slope_named, rest_named]
  all_goals obtain ⟨r, l, rfl⟩ : ∃ (r : Fin 2000) (l : Fin 512), y = ix2 r l := ⟨y 0, y 1, eq_ix2 y⟩
  all_goals obtain ⟨r', q, rfl⟩ : ∃ (r' : Fin 2000) (q : Fin 128), x = ix2 r' q := ⟨x 0, x 1, eq_ix2 x⟩
  all_goals obtain rfl : r = r' := Fin.ext h0
  · obtain rfl : l = laneOf 384 (by norm_num) q := Fin.ext h1
    refine Eq.trans ?_ (laneValue_at _ _ _ 384 (by norm_num) (by norm_num) q).symm
    exact select_lane q _ _
  · obtain rfl : l = laneOf 256 (by norm_num) q := Fin.ext h1
    refine Eq.trans ?_ (laneValue_at _ _ _ 256 (by norm_num) (by norm_num) q).symm
    exact select_lane q _ _
  · obtain rfl : l = laneOf 128 (by norm_num) q := Fin.ext h1
    refine Eq.trans ?_ (laneValue_at _ _ _ 128 (by norm_num) (by norm_num) q).symm
    exact select_lane q _ _
  · obtain rfl : l = laneOf 0 (by norm_num) q := Fin.ext (h1.trans (Nat.zero_add _).symm)
    refine Eq.trans ?_ (laneValue_at _ _ _ 0 (by norm_num) (by norm_num) q).symm
    simp only [Nat.zero_add]
    exact select_lane q _ _

end Cert.KernelIdeal.Block
-- ==== Proof.Host.lean ====
/- The kernel's three operands as the host lines before the launch leave them: the flattened points, the large
   matrix of weights, and the small matrix of segments. -/
module

public import proofs.«01_k».proof.Proof.Gen.KernelIdeal.Frame
public import proofs.«01_k».proof.Proof.Layer
public import Idealize.ShloMosaic.Lib.Pipeline.ValueKit
public import Idealize.ShloMosaic.Lib.StableHlo.ReadAt

@[expose] public section

set_option maxRecDepth 16384

noncomputable section

namespace Cert.KernelIdeal.HostSide

open Idealize.ShloMosaic Cert.KernelIdeal Cert.KernelIdeal.Gen Cert.Layer TcCoe

variable (m : (ℓ : Loc nD τ sig) → Buf (Elt Ideal) ℓ) (c : Dev nD)

/-- A one-bit word as a number. -/
theorem bit_num (b : BitVec 1) : (FloatOps.uitofp (F := Ideal) .f32 b : EReal) = if b = 1#1 then 1 else 0 := by
  rcases BitVec.eq_zero_or_eq_one b with rfl | rfl
  · simp [FloatOps.uitofp]
  · simp [FloatOps.uitofp]

/-- Equality of two small numbers, as the host's identity matrices test it. -/
theorem eye_bit (n k : ℕ) (hn : n < 16) (hk : k < 16) :
    IntOp.cmpi .eq (IntOp.addi (BitVec.ofNat 32 n) 0#32) (BitVec.ofNat 32 k) = 1#1 ↔ n = k := by
  have h : ∀ n k : Fin 16, IntOp.cmpi .eq (IntOp.addi (BitVec.ofNat 32 n.val) 0#32) (BitVec.ofNat 32 k.val) = 1#1 ↔ n.val = k.val := by
    decide +kernel
  exact h ⟨n, hn⟩ ⟨k, hk⟩

/-- A band of components, as the host tests it, for the three bands it tests. -/
theorem band_bit (lo hi n : ℕ) (hn : n < 16) (h : lo < 8) (h' : hi < 8) :
    IntOp.andi (IntOp.cmpi .sge (BitVec.ofNat 32 n) (BitVec.ofNat 32 lo)) (IntOp.cmpi .sle (BitVec.ofNat 32 n) (BitVec.ofNat 32 hi))
      = 1#1 ↔ lo ≤ n ∧ n ≤ hi := by
  have h : ∀ (lo hi : Fin 8) (n : Fin 16),
      IntOp.andi (IntOp.cmpi .sge (BitVec.ofNat 32 n.val) (BitVec.ofNat 32 lo.val))
        (IntOp.cmpi .sle (BitVec.ofNat 32 n.val) (BitVec.ofNat 32 hi.val)) = 1#1 ↔ lo.val ≤ n.val ∧ n.val ≤ hi.val := by
    decide +kernel
  exact h ⟨lo, ‹_›⟩ ⟨hi, h'⟩ ⟨n, hn⟩

/-- A component past the triples, as the host tests it for the weights. -/
theorem past_bit (n : ℕ) (hn : n < 16) : IntOp.cmpi .sgt (BitVec.ofNat 32 n) 6#32 = 1#1 ↔ 6 < n := by
  have h : ∀ n : Fin 16, IntOp.cmpi .sgt (BitVec.ofNat 32 n.val) 6#32 = 1#1 ↔ 6 < n.val := by decide +kernel
  exact h ⟨n, hn⟩

/-- A component past the triples, as the host tests it for the segments. -/
theorem last_bit (n : ℕ) (hn : n < 16) : IntOp.cmpi .sge (BitVec.ofNat 32 n) 7#32 = 1#1 ↔ 7 ≤ n := by
  have h : ∀ n : Fin 16, IntOp.cmpi .sge (BitVec.ofNat 32 n.val) 7#32 = 1#1 ↔ 7 ≤ n.val := by decide +kernel
  exact h ⟨n, hn⟩

/-- The large matrix's arithmetic: the two masked weights add up to the component's weight. -/
theorem large_num (i k : ℕ) (u v : EReal) :
    (if i = k then 1 else 0) * ((if 1 ≤ i ∧ i ≤ 6 then 1 else 0) * u + (if 6 < i then 1 else 0) * v)
      = if i = k then (if k = 0 then 0 else if k ≤ 6 then u else v) else 0 := by
  by_cases h : i = k
  · subst h
    rw [if_pos rfl, if_pos rfl, one_mul]
    by_cases h0 : i = 0
    · rw [if_neg (by omega), if_neg (by omega), if_pos h0, zero_mul, zero_mul, add_zero]
    · by_cases h6 : i ≤ 6
      · rw [if_pos (by omega), if_neg (by omega), if_neg h0, if_pos h6, one_mul, zero_mul, add_zero]
      · rw [if_neg (by omega), if_pos (by omega), if_neg h0, if_neg h6, zero_mul, one_mul, zero_add]
  · rw [if_neg h, if_neg h, zero_mul]

/-- The small matrix's arithmetic: the three products of masks add up to the test that two components share a
    segment other than the scalar's. -/
theorem small_num (P : Prop) [Decidable P] (i k : ℕ) :
    (if P then (1 : EReal) else 0)
        * ((if 1 ≤ i ∧ i ≤ 3 then 1 else 0) * (if 1 ≤ k ∧ k ≤ 3 then 1 else 0)
            + (if 4 ≤ i ∧ i ≤ 6 then 1 else 0) * (if 4 ≤ k ∧ k ≤ 6 then 1 else 0)
            + (if 7 ≤ i then 1 else 0) * (if 7 ≤ k then 1 else 0))
      = if P ∧ seg i = seg k ∧ seg k ≠ 0 then 1 else 0 := by
  have cases : ∀ n : ℕ, (n = 0 ∧ seg n = 0) ∨ ((1 ≤ n ∧ n ≤ 3) ∧ seg n = 1) ∨ ((4 ≤ n ∧ n ≤ 6) ∧ seg n = 2) ∨ (7 ≤ n ∧ seg n = 3) := by
    intro n
    unfold seg
    split_ifs <;> omega
  have m1 : ∀ n, (1 ≤ n ∧ n ≤ 3) ↔ seg n = 1 := fun n => by rcases cases n with h | h | h | h <;> omega
  have m2 : ∀ n, (4 ≤ n ∧ n ≤ 6) ↔ seg n = 2 := fun n => by rcases cases n with h | h | h | h <;> omega
  have m3 : ∀ n, 7 ≤ n ↔ seg n = 3 := fun n => by rcases cases n with h | h | h | h <;> omega
  simp only [m1, m2, m3]
  rcases cases i with ⟨-, h⟩ | ⟨-, h⟩ | ⟨-, h⟩ | ⟨-, h⟩ <;> rcases cases k with ⟨-, h'⟩ | ⟨-, h'⟩ | ⟨-, h'⟩ | ⟨-, h'⟩ <;>
    rw [h, h'] <;> by_cases hP : P <;> simp [hP]

/-- The points, flattened. -/
theorem points_apply (y : S50000x512.Idx) :
    V m c main_call0_v0 y = m ((c : Thread nD τ).loc main_arg0) (ix3 (y 0) (chan (y 1)) (comp (y 1))) := by
  unfold V
  after_reads_at

/-- The large matrix: the weight where the components agree. -/
theorem large_apply (i l : Fin 512) :
    V m c main_call0_v34 (ix2 i l)
      = if i.val % 16 = l.val % 16 then
          weight (fun o n => m ((c : Thread nD τ).loc main_arg1) (ix2 o n)) (fun o n => m ((c : Thread nD τ).loc main_arg2) (ix2 o n))
            (comp l) (chan l) (chan i)
        else 0 := by
  unfold V
  after_reads_at
  have hi : i.val % 16 < 16 := Nat.mod_lt _ (by norm_num)
  have hl : l.val % 16 < 16 := Nat.mod_lt _ (by norm_num)
  simp only [bit_num, eye_bit _ _ hi hl, band_bit 1 6 _ hi (by norm_num) (by norm_num), past_bit _ hi]
  exact large_num _ _ _ _

/-- The small matrix: one where the channels agree and the components share a segment other than the scalar's. -/
theorem small_apply (i l : Fin 128) :
    V m c main_call0_v73 (ix2 i l)
      = (if i.val / 16 = l.val / 16 ∧ seg (i.val % 16) = seg (l.val % 16) ∧ seg (l.val % 16) ≠ 0 then 1 else 0 : EReal) := by
  unfold V
  after_reads_at
  have hi : i.val % 16 < 16 := Nat.mod_lt _ (by norm_num)
  have hl : l.val % 16 < 16 := Nat.mod_lt _ (by norm_num)
  have hi' : i.val / 16 < 16 := by omega
  have hl' : l.val / 16 < 16 := by omega
  simp only [bit_num, eye_bit _ _ hi' hl', band_bit 1 3 _ hi (by norm_num) (by norm_num), band_bit 4 6 _ hi (by norm_num) (by norm_num),
    last_bit _ hi, band_bit 1 3 _ hl (by norm_num) (by norm_num), band_bit 4 6 _ hl (by norm_num) (by norm_num), last_bit _ hl]
  exact small_num _ _ _

end Cert.KernelIdeal.HostSide
-- ==== Proof.Array.lean ====
/- What the kernel's run leaves in its result: the blocks fill the flat array with the layer over the lanes, and the
   line after the launch reads it back as points, channels and components. -/
module

public import proofs.«01_k».proof.Proof.Block
public import proofs.«01_k».proof.Proof.Host

@[expose] public section

set_option maxRecDepth 16384

noncomputable section

namespace Cert.KernelIdeal.Array

open Idealize.ShloMosaic Cert.KernelIdeal Cert.KernelIdeal.Gen Cert.Layer TcCoe Idealize.SL.Sem

variable (m : (ℓ : Loc nD τ sig) → Buf (Elt Ideal) ℓ) (c : Dev nD)

/-- The layer of the run's arguments: at a point, a channel and a component. -/
def layer (p : Fin 50000) (o : Fin 32) (k : Fin 16) : EReal :=
  value (fun o k => m ((c : Thread nD τ).loc main_arg0) (ix3 p o k))
    (fun o n => m ((c : Thread nD τ).loc main_arg1) (ix2 o n))
    (fun o n => m ((c : Thread nD τ).loc main_arg2) (ix2 o n)) o k

/-- Which block each window holds at a grid point: the points' and the result's move with it, the matrices' do not. -/
theorem blocks : ∀ t : Fin cfg0.N,
    (cfg0.win 0).index t = ![t.val, 0] ∧ (cfg0.win 1).index t = ![0, 0] ∧ (cfg0.win 2).index t = ![0, 0]
      ∧ (cfg0.win 3).index t = ![t.val, 0] := by
  decide +kernel

/-- The point that row `r` of grid point `t`'s block holds. -/
abbrev point (t : Fin cfg0.N) (r : Fin 2000) : Fin 50000 :=
  ⟨t.val * 2000 + r.val, by have h : t.val < 25 := t.isLt; omega⟩

/-- A block of the flattened points, at an element. -/
theorem points_block (t : Fin cfg0.N) (r : Fin 2000) (l : Fin 512) :
    iblk m c 0 t (ix2 r l) = m ((c : Thread nD τ).loc main_arg0) (ix3 (point t r) (chan l) (comp l)) := by
  refine Eq.trans ?_ (HostSide.points_apply m c (ix2 (point t r) l))
  blk_ext [iblk, blocks t]

/-- The large matrix's block is the matrix. -/
theorem large_block (t : Fin cfg0.N) (i l : Fin 512) : iblk m c 1 t (ix2 i l) = V m c main_call0_v34 (ix2 i l) := by
  blk_ext [iblk, blocks t]

/-- The small matrix's block is the matrix. -/
theorem small_block (t : Fin cfg0.N) (i l : Fin 128) : iblk m c 2 t (ix2 i l) = V m c main_call0_v73 (ix2 i l) := by
  blk_ext [iblk, blocks t]

/-- Where an element of the result's block lies in the flat array. -/
theorem result_place (t : Fin cfg0.N) (r : Fin 2000) (l : Fin 512) :
    (win0_3.blk t).view.emb (ix2 r l) = (ix2 (point t r) l : S50000x512.Idx) := by
  blk_ext [blocks t]

/-- The flat array after the run. -/
theorem flat : (dats m 0 c).arrAt 3 cfg0.N = fun i : S50000x512.Idx => layer m c (i 0) (chan (i 1)) (comp (i 1)) := by
  refine (dats m 0 c).arrAt_eq_of_covers 3 _ (by decide +kernel) fun t hf y => ?_
  blk_simp
  rw [after0_3, Block.out_apply]
  obtain ⟨r, l, rfl⟩ : ∃ (r : Fin 2000) (l : Fin 512), y = ix2 r l := ⟨y 0, y 1, eq_ix2 y⟩
  rw [result_place]
  exact laneValue_eq (fun l => points_block m c t r l)
    (fun i l => (large_block m c t i l).trans (HostSide.large_apply m c i l))
    (fun i l => (small_block m c t i l).trans (HostSide.small_apply m c i l)) l

/-- The result buffer after the run. -/
theorem result : Pipeline.afterTail₀ cfgs (dats m) 0 (V0 m) [hostOps1] c main_v0
    = fun y : S50000x32x16.Idx => layer m c (y 0) (y 1) (y 2) := by
  have hw : Pipeline.withArrays spec0 c (V0 m c) (fun w => (dats m 0 c).arrAt w cfg0.N) (Proc.devRef .tc main_call0_v74)
      = fun i : S50000x512.Idx => layer m c (i 0) (chan (i 1)) (comp (i 1)) :=
    (Pipeline.withArrays_arr spec0 launch0.win.arr_inj c (V0 m c) _ 3).trans (flat m c)
  unfold Pipeline.afterTail₀
  after_reads_simp
  refine (congrArg (fun z => shapeCast S50000x32x16 z shapeCasts_S50000x512_S50000x32x16) hw).trans (funext fun y => ?_)
  obtain ⟨p, o, k, rfl⟩ : ∃ (p : Fin 50000) (o : Fin 32) (k : Fin 16), y = ix3 p o k := ⟨y 0, y 1, y 2, eq_ix3 y⟩
  pointwise
  have e : chan (⟨o.val * 16 + k.val, by omega⟩ : Fin 512) = o := Fin.ext (by simp only; omega)
  have e' : comp (⟨o.val * 16 + k.val, by omega⟩ : Fin 512) = k := Fin.ext (by simp only; omega)
  exact congrArg₂ (layer m c p) e e'

end Cert.KernelIdeal.Array
-- ==== Proof.Reference.lean ====
/- What the reference computes: its result at an index is the layer. -/
module

public import proofs.«01_k».proof.Proof.Gen.ReferenceIdeal.Run
public import proofs.«01_k».proof.Proof.Layer
public import Idealize.ShloMosaic.Lib.Pipeline.ValueKit

@[expose] public section

set_option maxRecDepth 16384

noncomputable section

namespace Cert.Layer

open Idealize.ShloMosaic Cert.Scalar

/-- A segment's sum is a sum over its own components. -/
theorem segSum_band (f : Fin 16 → EReal) (k : Fin 16) (lo n : ℕ) (h : lo + n ≤ 16)
    (hs : ∀ s : Fin 16, seg s = seg k ↔ lo ≤ s.val ∧ s.val < lo + n) :
    segSum f k = ∑ s : Fin n, f ⟨lo + s.val, by omega⟩ := by
  unfold segSum
  refine (Finset.sum_of_injOn (fun s : Fin n => (⟨lo + s.val, by omega⟩ : Fin 16)) ?_ (fun _ _ => Finset.mem_coe.mpr (Finset.mem_univ _)) ?_ ?_).symm
  · intro s _ s' _ e
    have e' := congrArg Fin.val e
    exact Fin.ext (by simp only at e'; omega)
  · intro i _ hi
    rw [if_neg]
    intro hh
    obtain ⟨h₁, h₂⟩ := (hs i).mp hh
    exact hi ⟨⟨i.val - lo, by omega⟩, Finset.mem_coe.mpr (Finset.mem_univ _), Fin.ext (by simp only; omega)⟩
  · intro s _
    rw [if_pos ((hs _).mpr ⟨by simp only; omega, by simp only; omega⟩)]

/-- The reference's formula on a band of components that share one weight matrix is the layer's value. -/
theorem band_eq (x : Fin 32 → Fin 16 → EReal) (A B W : Fin 32 → Fin 32 → EReal) (o : Fin 32) (k : Fin 16)
    (lo n : ℕ) (h : lo + n ≤ 16) (hs : ∀ s : Fin 16, seg s = seg k ↔ lo ≤ s.val ∧ s.val < lo + n) (hlo : lo ≠ 0)
    (hW : ∀ s : Fin 16, lo ≤ s.val → s.val < lo + n → ∀ o c, weight A B s o c = W o c) :
    mix (x o k) (∑ c, x c k * W o c)
        (∑ s : Fin n, (∑ c, x c ⟨lo + s.val, by omega⟩ * W o c) * x o ⟨lo + s.val, by omega⟩)
        (∑ s : Fin n, (∑ c, x c ⟨lo + s.val, by omega⟩ * W o c) * ∑ c, x c ⟨lo + s.val, by omega⟩ * W o c)
      = value x A B o k := by
  have hk := (hs k).mp rfl
  unfold value
  rw [if_neg (by omega), mix_eq_gate, segSum_band _ k lo n h hs, segSum_band _ k lo n h hs]
  have hd : ∀ s : Fin 16, lo ≤ s.val → s.val < lo + n → dir x A B o s = ∑ c, x c s * W o c := fun s h₁ h₂ => by
    unfold dir
    simp only [hW s h₁ h₂]
  have hd' : ∀ s : Fin n, dir x A B o ⟨lo + s.val, by omega⟩ = ∑ c, x c ⟨lo + s.val, by omega⟩ * W o c := fun s =>
    hd _ (by simp only; omega) (by simp only; omega)
  rw [hd k hk.1 hk.2]
  simp only [hd']

end Cert.Layer

namespace Cert.ReferenceIdeal.Equation

open Idealize.ShloMosaic Cert.ReferenceIdeal Cert.ReferenceIdeal.Gen Cert.Layer Cert.Scalar TcCoe

/-- The reference's mask as a number. -/
theorem mask_num (P : Prop) [Decidable P] :
    (FloatOps.uitofp (F := Ideal) .f32 (BitVec.ofBool (decide P)) : EReal) = if P then 1 else 0 := by
  by_cases h : P <;> simp [h, FloatOps.uitofp]

/-- The reference's slope at its one index. -/
theorem slope_host (S : Shape) (i : S.Idx) :
    Host.divf (constant (F := Ideal) S .f32 0x3F800000#32) (constant S .f32 0x40A00000#32) i = ((1 / 5 : ℝ) : EReal) := slope_eq

/-- The reference's rest at its one index. -/
theorem rest_host (S : Shape) (i : S.Idx) :
    subf (constant (F := Ideal) S .f32 0x3F800000#32)
      (Host.divf (constant (F := Ideal) S .f32 0x3F800000#32) (constant S .f32 0x40A00000#32)) i = ((4 / 5 : ℝ) : EReal) :=
  (congrArg (fun z => Ideal.ofBits .f32 0x3F800000#32 - z) slope_eq).trans rest_eq

variable (m : (ℓ : Loc nD τ sig) → Buf (Elt Ideal) ℓ) (c : Dev nD)

/-- The reference's result is the layer of its arguments. -/
theorem result : Value.res_out0 m c = fun y : S50000x32x16.Idx =>
    value (fun o k => m ((c : Thread nD τ).loc main_arg0) (ix3 (y 0) o k))
      (fun o n => m ((c : Thread nD τ).loc main_arg1) (ix2 o n))
      (fun o n => m ((c : Thread nD τ).loc main_arg2) (ix2 o n)) (y 1) (y 2) := by
  funext y
  obtain ⟨p, o, k, rfl⟩ : ∃ (p : Fin 50000) (o : Fin 32) (k : Fin 16), y = ix3 p o k := ⟨y 0, y 1, y 2, eq_ix3 y⟩
  unfold Value.res_out0 Value.res_main_v122
  pointwise
  simp only [id, slope_host, rest_host, mask_num]
  by_cases h0 : k.val < 1
  · rw [dif_pos h0]
    obtain rfl : k = 0 := Fin.ext (by simp only [Fin.val_zero]; omega)
    exact (if_pos rfl).symm
  rw [dif_neg h0]
  by_cases h1 : k.val - 1 < 3
  · rw [dif_pos h1]
    refine Eq.trans ?_ (band_eq _ _ _ (fun o n => m ((c : Thread nD τ).loc main_arg1) (ix2 o n)) o k 1 3 (by norm_num)
      (fun s => by unfold seg; split_ifs <;> refine ⟨fun e => ?_, fun e => ?_⟩ <;> first | omega | exact e.elim) (by norm_num) fun s h₁ h₂ o n => by
        unfold weight; rw [if_neg (by omega), if_pos (by omega)])
    have e₁ : 1 + (k.val - 1) = k.val := by omega
    have e₂ : (p.val * 3 + (k.val - 1)) / 3 = p.val := by omega
    have e₃ : 1 + (p.val * 3 + (k.val - 1)) % 3 = k.val := by omega
    simp only [e₁, e₂, e₃]
    rfl
  rw [dif_neg h1]
  by_cases h2 : k.val - 1 - 3 < 3
  · rw [dif_pos h2]
    refine Eq.trans ?_ (band_eq _ _ _ (fun o n => m ((c : Thread nD τ).loc main_arg1) (ix2 o n)) o k 4 3 (by norm_num)
      (fun s => by unfold seg; split_ifs <;> refine ⟨fun e => ?_, fun e => ?_⟩ <;> first | omega | exact e.elim) (by norm_num) fun s h₁ h₂ o n => by
        unfold weight; rw [if_neg (by omega), if_pos (by omega)])
    have e₁ : 4 + (k.val - 1 - 3) = k.val := by omega
    have e₂ : (p.val * 3 + (k.val - 1 - 3)) / 3 = p.val := by omega
    have e₃ : 4 + (p.val * 3 + (k.val - 1 - 3)) % 3 = k.val := by omega
    simp only [e₁, e₂, e₃]
    rfl
  rw [dif_neg h2]
  refine Eq.trans ?_ (band_eq _ _ _ (fun o n => m ((c : Thread nD τ).loc main_arg2) (ix2 o n)) o k 7 9 (by norm_num)
    (fun s => by unfold seg; split_ifs <;> refine ⟨fun e => ?_, fun e => ?_⟩ <;> first | omega | exact e.elim) (by norm_num) fun s h₁ h₂ o n => by
      unfold weight; rw [if_neg (by omega), if_neg (by omega)])
  have e₁ : 7 + (k.val - 1 - 3 - 3) = k.val := by omega
  have e₃ : 7 + (p.val * 9 + (k.val - 1 - 3 - 3)) % 9 = k.val := by omega
  simp only [e₁, e₃]
  rfl

end Cert.ReferenceIdeal.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Layer TcCoe

/-- The kernel leaves its arguments as it found them and every counter at zero. -/
theorem kernel_frame : Cert.quiescent_Kernel := fun m ρ _ => Cert.Kernel.Gen.frame m ρ

/-- The idealized kernel does too. -/
theorem kernelIdeal_frame : Cert.quiescent_KernelIdeal := fun m ρ _ => Cert.KernelIdeal.Gen.frame m ρ

/-- The reference leaves its arguments as it found them; it declares no counter. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every change the idealization made is one of the two named constants. -/
theorem preserved : Cert.preserves_Kernel_KernelIdeal :=
  ⟨IdealRules.named_const.statement Cert.KernelIdeal.κ "rest" .f32 0x3F4CCCCD#32 ((4 / 5 : ℝ) : EReal) rfl,
    IdealRules.named_const.statement Cert.KernelIdeal.κ "slope" .f32 0x3E4CCCCD#32 ((1 / 5 : ℝ) : EReal) rfl⟩

/-- The idealized kernel and the reference end with the same result: the layer of the arguments. -/
theorem equal : Cert.algebraic_KernelIdeal_ReferenceIdeal := by
  intro m ρ m' ρ' _ hagree
  refine ⟨fun c => fun y : Cert.KernelIdeal.S50000x32x16.Idx => Cert.KernelIdeal.Array.layer m c (y 0) (y 1) (y 2), ?_, ?_⟩
  · refine (θ_run _ _ _).mono (fun r h c => ⟨?_, h.2 c⟩)
      (θ_run_and (Cert.KernelIdeal.Gen.run_main (F := Ideal) m ρ) (Cert.KernelIdeal.Gen.unchanged (F := Ideal) m ρ))
    exact ((h.1 c).2 Cert.KernelIdeal.main_v0 (Pipeline.mem_restRefs_of Cert.KernelIdeal.main_v0 (by decide) (by decide))).trans
      (Cert.KernelIdeal.Array.result m c)
  · refine (θ_run _ _ _).mono (fun r h c => ⟨(h c).1.trans ?_, (h c).2⟩) (Cert.ReferenceIdeal.Value.run (F := Ideal) m' ρ')
    refine (Cert.ReferenceIdeal.Equation.result m' c).trans ?_
    obtain ⟨h0, h1, h2⟩ := hagree c
    rw [h0, h1, h2]
    rfl

/-- The five claims. -/
theorem claim : Cert.Claim :=
  ⟨Cert.Kernel.Gen.facts, Cert.KernelIdeal.Gen.facts, Cert.ReferenceIdeal.Gen.facts,
    kernel_frame, kernelIdeal_frame, reference_frame, preserved, equal⟩

end Cert.Proof

end
